-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32768 : Shape := ⟨2, ![1024, 32768]⟩
abbrev S1024x256x128 : Shape := ⟨3, ![1024, 256, 128]⟩
abbrev S256x1x1 : Shape := ⟨3, ![256, 1, 1]⟩
abbrev S_ : Shape := ⟨0, ![]⟩
abbrev S4x256x128 : Shape := ⟨3, ![4, 256, 128]⟩
abbrev S1x1x1 : Shape := ⟨3, ![1, 1, 1]⟩
abbrev S1x256x128 : Shape := ⟨3, ![1, 256, 128]⟩
abbrev S1x4x256x128 : Shape := ⟨4, ![1, 4, 256, 128]⟩
abbrev S1 : Shape := ⟨1, ![1]⟩
abbrev S1x1x1x1 : Shape := ⟨4, ![1, 1, 1, 1]⟩
abbrev S1x256x1 : Shape := ⟨3, ![1, 256, 1]⟩
abbrev S1x1x128 : Shape := ⟨3, ![1, 1, 128]⟩
abbrev S4x16x2x8x128 : Shape := ⟨5, ![4, 16, 2, 8, 128]⟩
abbrev S4x16x1x8x128 : Shape := ⟨5, ![4, 16, 1, 8, 128]⟩
abbrev S4x16x8x128 : Shape := ⟨4, ![4, 16, 8, 128]⟩
abbrev S4x8x2x16x128 : Shape := ⟨5, ![4, 8, 2, 16, 128]⟩
abbrev S4x8x1x16x128 : Shape := ⟨5, ![4, 8, 1, 16, 128]⟩
abbrev S4x8x16x128 : Shape := ⟨4, ![4, 8, 16, 128]⟩
abbrev S4x4x2x32x128 : Shape := ⟨5, ![4, 4, 2, 32, 128]⟩
abbrev S4x4x1x32x128 : Shape := ⟨5, ![4, 4, 1, 32, 128]⟩
abbrev S4x4x32x128 : Shape := ⟨4, ![4, 4, 32, 128]⟩
abbrev S4x2x2x64x128 : Shape := ⟨5, ![4, 2, 2, 64, 128]⟩
abbrev S4x2x1x64x128 : Shape := ⟨5, ![4, 2, 1, 64, 128]⟩
abbrev S4x2x64x128 : Shape := ⟨4, ![4, 2, 64, 128]⟩
abbrev S4x1x2x128x128 : Shape := ⟨5, ![4, 1, 2, 128, 128]⟩
abbrev S4x1x1x128x128 : Shape := ⟨5, ![4, 1, 1, 128, 128]⟩
abbrev S4x1x128x128 : Shape := ⟨4, ![4, 1, 128, 128]⟩

abbrev nBuf : Space → Nat
  | .hbm => 9
  | .vmem => 6
  | .smem => 0
  | _ => 0

abbrev bufTy : (tb : Table) → Fin (tcTables nBuf tb) → BufTy
  | .hbm, ⟨0, _⟩ => ⟨S1024x32768, .f32⟩
  | .hbm, ⟨1, _⟩ => ⟨S1024x32768, .f32⟩
  | .hbm, ⟨2, _⟩ => ⟨S1024x256x128, .f32⟩
  | .hbm, ⟨3, _⟩ => ⟨S1024x256x128, .f32⟩
  | .hbm, ⟨4, _⟩ => ⟨S256x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S4x256x128, .f32⟩
  | .local _ .vmem, ⟨1, _⟩ => ⟨S4x256x128, .f32⟩
  | .local _ .vmem, ⟨2, _⟩ => ⟨S4x256x128, .f32⟩
  | .local _ .vmem, ⟨3, _⟩ => ⟨S4x256x128, .f32⟩
  | .local _ .vmem, ⟨4, _⟩ => ⟨S1x1x1, .f32⟩
  | .local _ .vmem, ⟨5, _⟩ => ⟨S1x1x1, .f32⟩
  | _, _ => ⟨S1024x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_cst_0 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x32768 : Shape := ⟨2, ![1024, 32768]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S1024x32768, .f32⟩
  | .hbm, ⟨1, _⟩ => ⟨S1024x32768, .f32⟩
  | .hbm, ⟨2, _⟩ => ⟨S1024x32768, .f32⟩
  | .hbm, ⟨3, _⟩ => ⟨S1024x32768, .f32⟩
  | .hbm, ⟨4, _⟩ => ⟨S1024x32768, .f32⟩
  | .hbm, ⟨5, _⟩ => ⟨S1024x32768, .f32⟩
  | .hbm, ⟨6, _⟩ => ⟨S1024x32768, .f32⟩
  | .hbm, ⟨7, _⟩ => ⟨S1024x32768, .f32⟩
  | .hbm, ⟨8, _⟩ => ⟨S1024x32768, .f32⟩
  | .hbm, ⟨9, _⟩ => ⟨S1024x32768, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S1024x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.Stages.lean ====
/- The kernel's network as a few functions of one block: an exchange at one distance, a change of
   sign where the position has a given bit pattern, and the levels they make. -/
module

public import proofs.«01_k».proof.Proof.Gen.KernelIdeal.Skeleton

@[expose] public section

noncomputable section

namespace Cert.Net

open Idealize.ShloMosaic Idealize.SL.Sem Cert.KernelIdeal Cert.KernelIdeal.Gen

variable {F : FTy → Type} [FloatOps F]

/-- A block of four rows, each laid out on 256 sublanes and 128 lanes. -/
abbrev Blk (F : FTy → Type) : Type := FVec F S4x256x128 .f32

/-- The five axes a block is cut into where sublane groups of `cj` are exchanged in pairs. -/
abbrev S5 (g cj : Nat) : Shape := ⟨5, ![4, g, 2, cj, 128]⟩
/-- One member of every pair, the pair's axis kept. -/
abbrev S51 (g cj : Nat) : Shape := ⟨5, ![4, g, 1, cj, 128]⟩
/-- One member of every pair, the pair's axis dropped. -/
abbrev S4 (g cj : Nat) : Shape := ⟨4, ![4, g, cj, 128]⟩

/-- The exchange of neighbouring groups of `cj` sublanes: the minimum to the first of each pair,
    the maximum to the second. -/
def exch (g cj : Nat) (h1 : S4x256x128.ShapeCasts (S5 g cj)) (h2 : (S5 g cj).Slices ![0, 0, 0, 0, 0] (S51 g cj))
    (h3 : (S5 g cj).Slices ![0, 0, 1, 0, 0] (S51 g cj)) (h4 : (S51 g cj).ShapeCasts (S4 g cj))
    (h5 : (S4 g cj).ShapeCasts (S51 g cj)) (h6 : Shape.Concatenates [S51 g cj, S51 g cj] (S5 g cj) 2)
    (h7 : (S5 g cj).ShapeCasts S4x256x128) (x : Blk F) : Blk F :=
  have v : FVec F (S5 g cj) .f32 := shapeCast (S5 g cj) x h1
  have a : FVec F (S4 g cj) .f32 := shapeCast (S4 g cj) (extractStridedSlice (S51 g cj) ![0, 0, 0, 0, 0] v h2) h4
  have b : FVec F (S4 g cj) .f32 := shapeCast (S4 g cj) (extractStridedSlice (S51 g cj) ![0, 0, 1, 0, 0] v h3) h4
  shapeCast S4x256x128 (concatenate (S5 g cj) 2
    [⟨S51 g cj, shapeCast (S51 g cj) (minimumf a b : FVec F (S4 g cj) .f32) h5⟩,
     ⟨S51 g cj, shapeCast (S51 g cj) (maximumf a b : FVec F (S4 g cj) .f32) h5⟩] h6) h7

/-- The sublanes whose number has the bits `q` clear. -/
def subMask (q : BitVec 32) : IVec S1x256x1 1 :=
  cmpi .eq (andi (iota .tc S1x256x1 32 [1] iota_S1x256x1_d1_w32) (broadcast S1x256x1 q)) (broadcast S1x256x1 0#32)

/-- The lanes whose number has the bits `q` clear. -/
def laneMask (q : BitVec 32) : IVec S1x1x128 1 :=
  cmpi .eq (andi (iota .tc S1x1x128 32 [2] iota_S1x1x128_d2_w32) (broadcast S1x1x128 q)) (broadcast S1x1x128 0#32)

/-- The exchange of sublanes at distance `dn`, by one rotation each way. -/
def rotSub (up dn : BitVec 32) (x : Blk F) : Blk F :=
  select (broadcastTo S4x256x128 (shapeCast S1x256x1 (subMask dn) shapeCasts_S1x256x1_S1x256x1) broadcasts_S1x256x1_S4x256x128)
    (minimumf x (dynamicRotate 1 up none x rotates_S4x256x128_d1 : Blk F) : Blk F)
    (maximumf x (dynamicRotate 1 dn none x rotates_S4x256x128_d1 : Blk F) : Blk F)

/-- The exchange of lanes at distance `dn`, by one rotation each way. -/
def rotLane (up dn : BitVec 32) (x : Blk F) : Blk F :=
  select (broadcastTo S4x256x128 (shapeCast S1x1x128 (laneMask dn) shapeCasts_S1x1x128_S1x1x128) broadcasts_S1x1x128_S4x256x128)
    (minimumf x (dynamicRotate 2 up none x rotates_S4x256x128_d2 : Blk F) : Blk F)
    (maximumf x (dynamicRotate 2 dn none x rotates_S4x256x128_d2 : Blk F) : Blk F)

/-- The exchange at distance `2 ^ n` of the network's positions. -/
def cmpx : Nat → Blk F → Blk F
  | 0 => exch 16 8 shapeCasts_S4x256x128_S4x16x2x8x128 slices_S4x16x2x8x128_o0_0_0_0_0_S4x16x1x8x128
      slices_S4x16x2x8x128_o0_0_1_0_0_S4x16x1x8x128 shapeCasts_S4x16x1x8x128_S4x16x8x128 shapeCasts_S4x16x8x128_S4x16x1x8x128
      concatenates_S4x16x1x8x128_S4x16x1x8x128_S4x16x2x8x128_d2 shapeCasts_S4x16x2x8x128_S4x256x128
  | 1 => exch 8 16 shapeCasts_S4x256x128_S4x8x2x16x128 slices_S4x8x2x16x128_o0_0_0_0_0_S4x8x1x16x128
      slices_S4x8x2x16x128_o0_0_1_0_0_S4x8x1x16x128 shapeCasts_S4x8x1x16x128_S4x8x16x128 shapeCasts_S4x8x16x128_S4x8x1x16x128
      concatenates_S4x8x1x16x128_S4x8x1x16x128_S4x8x2x16x128_d2 shapeCasts_S4x8x2x16x128_S4x256x128
  | 2 => exch 4 32 shapeCasts_S4x256x128_S4x4x2x32x128 slices_S4x4x2x32x128_o0_0_0_0_0_S4x4x1x32x128
      slices_S4x4x2x32x128_o0_0_1_0_0_S4x4x1x32x128 shapeCasts_S4x4x1x32x128_S4x4x32x128 shapeCasts_S4x4x32x128_S4x4x1x32x128
      concatenates_S4x4x1x32x128_S4x4x1x32x128_S4x4x2x32x128_d2 shapeCasts_S4x4x2x32x128_S4x256x128
  | 3 => exch 2 64 shapeCasts_S4x256x128_S4x2x2x64x128 slices_S4x2x2x64x128_o0_0_0_0_0_S4x2x1x64x128
      slices_S4x2x2x64x128_o0_0_1_0_0_S4x2x1x64x128 shapeCasts_S4x2x1x64x128_S4x2x64x128 shapeCasts_S4x2x64x128_S4x2x1x64x128
      concatenates_S4x2x1x64x128_S4x2x1x64x128_S4x2x2x64x128_d2 shapeCasts_S4x2x2x64x128_S4x256x128
  | 4 => exch 1 128 shapeCasts_S4x256x128_S4x1x2x128x128 slices_S4x1x2x128x128_o0_0_0_0_0_S4x1x1x128x128
      slices_S4x1x2x128x128_o0_0_1_0_0_S4x1x1x128x128 shapeCasts_S4x1x1x128x128_S4x1x128x128 shapeCasts_S4x1x128x128_S4x1x1x128x128
      concatenates_S4x1x1x128x128_S4x1x1x128x128_S4x1x2x128x128_d2 shapeCasts_S4x1x2x128x128_S4x256x128
  | 5 => rotSub 255#32 1#32
  | 6 => rotSub 254#32 2#32
  | 7 => rotSub 252#32 4#32
  | 8 => rotLane 127#32 1#32
  | 9 => rotLane 126#32 2#32
  | 10 => rotLane 124#32 4#32
  | 11 => rotLane 120#32 8#32
  | 12 => rotLane 112#32 16#32
  | 13 => rotLane 96#32 32#32
  | _ => rotLane 64#32 64#32

/-- The network position of each element of a row. -/
def idx : IVec S1x256x128 32 :=
  ori (ori (shrsi (iota .tc S1x256x128 32 [1] iota_S1x256x128_d1_w32) (broadcast S1x256x128 3#32))
      (shli (andi (iota .tc S1x256x128 32 [1] iota_S1x256x128_d1_w32) (broadcast S1x256x128 7#32)) (broadcast S1x256x128 5#32)))
    (shli (iota .tc S1x256x128 32 [2] iota_S1x256x128_d2_w32) (broadcast S1x256x128 8#32))

/-- The positions at which the bits `k` are clear. -/
def clear (k : BitVec 32) : IVec S1x256x128 1 := cmpi .eq (andi idx (broadcast S1x256x128 k)) (broadcast S1x256x128 0#32)

/-- A mask over positions, for each of a block's rows. -/
def rows (m : IVec S1x256x128 1) : IVec S4x256x128 1 :=
  broadcastTo S4x256x128 (shapeCast S1x256x128 m shapeCasts_S1x256x128_S1x256x128) broadcasts_S1x256x128_S4x256x128

/-- The negated block. -/
def negBlk (x : Blk F) : Blk F := subf (broadcast S4x256x128 (Scalar.ofBits .f32 0x00000000#32)) x

/-- The first change of sign: where bit one of the position is set. -/
def flip0 (x : Blk F) : Blk F := select (rows (clear 2#32)) x (negBlk x)

/-- The change of sign between two levels: where exactly one of two bits of the position is clear. -/
def flip (p k : BitVec 32) (x : Blk F) : Blk F := select (rows (xori (clear p) (clear k))) (negBlk x) x

/-- The exchanges of one level: at distances `2 ^ n`, …, `1`. -/
def tail : Nat → Blk F → Blk F
  | 0, x => cmpx 0 x
  | n + 1, x => tail n (cmpx (n + 1) x)

/-- The network's first `n + 1` levels, signs changed as the kernel changes them. -/
def net (x : Blk F) : Nat → Blk F
  | 0 => tail 0 (flip0 x)
  | n + 1 => tail (n + 1) (flip (1#32 <<< (n + 1)) (1#32 <<< (n + 2)) (net x n))

/-- The sum of the squares of the differences of two blocks. -/
def sqSum (x y : Blk F) : F .f32 :=
  extractAt ![0, 0, 0, 0] (shapeCast S1x1x1x1 (multiReduction .add [1, 2, 3] S1
    (shapeCast S1x4x256x128 (mulf (subf x y : Blk F) (subf x y) : Blk F) shapeCasts_S4x256x128_S1x4x256x128)
    0x00000000#32 reduces_S1x4x256x128_S1 (.inl rfl) rfl) shapeCasts_S1_S1x1x1x1) inpos_S1x1x1x1_p0_0_0_0

/-- What one block adds to the loss: the squares of the differences, plain and sorted. -/
def blkLoss (x y : Vec F S4x256x128 .f32) : F .f32 :=
  have a : Blk F := shapeCast S4x256x128 x shapeCasts_S4x256x128_S4x256x128
  have b : Blk F := shapeCast S4x256x128 y shapeCasts_S4x256x128_S4x256x128
  Scalar.addf (sqSum a b) (sqSum (net a 14) (net b 14))

set_option maxRecDepth 65536 in
/-- The kernel's body up to its store reads the two blocks and returns `blkLoss` of them. -/
theorem part49_eq (i : grid0.Coords) (arg1 : Memref sig .tc .vmem S4x256x128 .f32) (harg1 : arg1.IsWhole)
    (arg2 : Memref sig .tc .vmem S4x256x128 .f32) (harg2 : arg2.IsWhole) (arg3 : Memref sig .tc .vmem S1x1x1 .f32)
    (harg3 : arg3.IsWhole) :
    k0_part49 (F := F) i arg1 harg1 arg2 harg2 arg3 harg3 = (do
      let x : Vec F S4x256x128 .f32 ← Prog.lift (.load arg1 (Rect.unit (s := S4x256x128) ![0, 0, 0] S4x256x128.size inb_S4x256x128_S4x256x128_0_0_0).toLoadRect (View.loadsAt_vmem h_S4x256x128))
      let y : Vec F S4x256x128 .f32 ← Prog.lift (.load arg2 (Rect.unit (s := S4x256x128) ![0, 0, 0] S4x256x128.size inb_S4x256x128_S4x256x128_0_0_0).toLoadRect (View.loadsAt_vmem h_S4x256x128))
      pure (blkLoss x y)) := by
  rfl

end Cert.Net
-- ==== Proof.Body.lean ====
/- One grid point of the kernel: from the two input blocks it leaves `blkLoss` of them in the result's
   block. -/
module

public import proofs.«01_k».proof.Proof.Stages
public import proofs.«01_k».proof.Proof.Gen.KernelIdeal.Frame
public import Idealize.ShloMosaic.Lib.WholeRead

@[expose] public section

noncomputable section

namespace Cert.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A block of one element has one index. -/
theorem idx_one (x y : S1x1x1.Idx) : x = y := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _

/-- After a store of the whole block under the all-true mask, the block reads as what was stored. -/
theorem read_store (v : View sig .tc .vmem S1x1x1 .f32) (f : v.ty.Contents (Elt F)) (w : S1x1x1.Idx → Elt F .f32)
    (M : Finset S1x1x1.Idx) (hM : ∀ x, x ∈ M) :
    v.read (Elt F) ((v.slice (Rect.unit (s := S1x1x1) ![0, 0, 0] S1x1x1.size inb_S1x1x1_S1x1x1_0_0_0)).write (Elt F) f w M) = w := by
  funext y
  have h := View.read_slice_write_emb (v := v) (Val := Elt F) (Rect.unit (s := S1x1x1) ![0, 0, 0] S1x1x1.size inb_S1x1x1_S1x1x1_0_0_0) f w (hM y)
  rwa [show (Rect.unit (s := S1x1x1) ![0, 0, 0] S1x1x1.size inb_S1x1x1_S1x1x1_0_0_0).emb y = y from idx_one _ _] at h

/-- A load of the whole block reads what the block holds. -/
theorem load_whole {g : Memref sig .tc .vmem S4x256x128 .f32} (h : g.IsWhole) (x : Vec F S4x256x128 .f32) :
    View.readAt (Elt F) g.view (Rect.unit (s := S4x256x128) ![0, 0, 0] S4x256x128.size inb_S4x256x128_S4x256x128_0_0_0).toLoadRect
      (h.unread x) = x := by
  funext y
  rw [h.readAt_unread]
  congr 1
  funext a
  apply Fin.ext
  rw [LoadRect.idx_apply]
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The body's triple: on staging memrefs holding the two blocks it ends with them as they were and
    the result's at `blkLoss` of them. -/
theorem body_run (c : Dev nD) (i : grid0.Coords) (arg1 : Memref sig .tc .vmem S4x256x128 .f32) (harg1 : arg1.IsWhole)
    (arg2 : Memref sig .tc .vmem S4x256x128 .f32) (harg2 : arg2.IsWhole) (arg3 : Memref sig .tc .vmem S1x1x1 .f32)
    (harg3 : arg3.IsWhole) (x0 x1 : Vec F S4x256x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (fun _ => blkLoss x0 x1)) -∗ K ⟨⟩))
      ⊢ wp frame (wpE (defs₀ (F := F)) Variants.none c none) E (cc0__loss_kernel i arg1 harg1 arg2 harg2 arg3 harg3) K := by
  unfold cc0__loss_kernel
  simp only [part49_eq]
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr; swap; · iexact H2
  ipureintro
  refine (read_store arg3.view f2 _ _ fun x => Finset.mem_filter.2 ⟨Finset.mem_univ _, rfl⟩).trans ?_
  rw [load_whole harg1, load_whole harg2]
  rfl

end Cert.Net
-- ==== Proof.Run.lean ====
/- The launch: the kernel's one region between its host lines, every grid point by `body_run`. -/
module

public import proofs.«01_k».proof.Proof.Body
public import Idealize.ShloMosaic.Lib.Claim

@[expose] public section

set_option maxRecDepth 16384

noncomputable section

namespace Cert.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the result's block at point `t`. -/
def outBlk (c : Dev nD) (t : Fin cfg0.N) : Vec F S1x1x1 .f32 := fun _ => blkLoss (iblk m c 0 t) (iblk m c 1 t)

/-- The proof data of the one region: the arrays as the region finds them, each input's block kept,
    the result's block at `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk m c t
  Φ _ := Pipeline.ΦA spec0 c
  q _ := fullShare
  owed _ := 0

/-- The arrays are the region's entry contents. -/
theorem A_eq (c : Dev nD) (w : Fin cfg0.W) : (dats m 0 c).A w = V m c (Pipeline.arrRef spec0 w) := by
  dsimp only [dats]

/-- The body keeps the first input's block. -/
theorem after0_0 (c : Dev nD) (t : Fin cfg0.N) : (dats m 0 c).after 0 t = iblk m c 0 t := by dsimp only [dats]
/-- The body keeps the second input's block. -/
theorem after0_1 (c : Dev nD) (t : Fin cfg0.N) : (dats m 0 c).after 1 t = iblk m c 1 t := by dsimp only [dats]
/-- The body leaves the block's loss in the result's block. -/
theorem after0_2 (c : Dev nD) (t : Fin cfg0.N) : (dats m 0 c).after 2 t = outBlk m c t := by dsimp only [dats]

/-- The body at a grid point, from the windows' staging buffers to what it leaves in them. -/
theorem sound_body (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (win0_0.stage (cfg0.slots t 0)) fullShare ((dats m 0 c).after 0 t)
        ∗ owns (c : Thread nD τ) (win0_1.stage (cfg0.slots t 1)) fullShare ((dats m 0 c).after 1 t)
        ∗ owns (c : Thread nD τ) (win0_2.stage (cfg0.slots t 2)) fullShare ((dats m 0 c).after 2 t))) := by
  unfold bodyAt0
  simp only [before0_0_of m (dats m 0 c) (A_eq m c 0) (after0_0 m c), before0_1_of m (dats m 0 c) (A_eq m c 1) (after0_1 m c)]
  rw [show (dats m 0 c).Φ t.succ = (dats m 0 c).Φ t.castSucc from rfl,
    show (dats m 0 c).owesAt () t.succ = (dats m 0 c).owesAt () t.castSucc from rfl, after0_0, after0_1, after0_2]
  unfold outBlk
  iintro ⟨HΦ, Ho, ⟨%d0, H0⟩, ⟨%d1, H1⟩, ⟨%d2, H2⟩⟩
  iapply (body_run c (grid0.coords t) _ _ _ _ _ _ (iblk m c 0 t) (iblk m c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every execution of the program ends, with the region's arrays at what the proof data say, the
    host lines' results over them, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end as they began, and every semaphore counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Net
-- ==== Proof.Printed.lean ====
/- The kernel's program and its ideal reading are the same operations, so what one reading is shown to do for all float
   values holds of the other. -/
module

public import proofs.«01_k».proof.Defs
public import proofs.«01_k».proof.Proof.Gen.Kernel
public import proofs.«01_k».proof.Proof.Run

@[expose] public section

noncomputable section

namespace Cert.Net

open Idealize.ShloMosaic Idealize.SL.Sem

variable {F : FTy → Type} [FloatOps F] [Cert.Kernel.Facts] [Cert.KernelIdeal.Facts]

/-- The two programs' kernel bodies are the same. -/
theorem body_same : @Cert.Kernel.cc0__loss_kernel F _ _ = @Cert.KernelIdeal.cc0__loss_kernel F _ _ := rfl

/-- The two programs' tables of bodies are the same. -/
theorem bodies_same : @Cert.Kernel.defs₀ F _ _ = @Cert.KernelIdeal.defs₀ F _ _ := by
  unfold Cert.Kernel.defs₀ Cert.KernelIdeal.defs₀
  refine congrArg Defs.onTc (funext fun l => ?_)
  match l with
  | 0 => exact funext fun a => rfl

/-- The two programs' tables with the launch are the same. -/
theorem defs_same : @Cert.Kernel.defs F _ _ = @Cert.KernelIdeal.defs F _ _ :=
  congrArg (Pipeline.defs Cert.KernelIdeal.pcfgs) bodies_same

/-- The two programs' host code is the same. -/
theorem main_same : @Cert.Kernel.main F _ _ = @Cert.KernelIdeal.main F _ _ := rfl

omit [Cert.Kernel.Facts] [Cert.KernelIdeal.Facts] in
/-- The kernel's program terminates without fault, its arguments unchanged and every counter at zero. -/
theorem frame_printed [Cert.Kernel.Facts] (m : (ℓ : Loc Cert.Kernel.nD Cert.Kernel.τ Cert.Kernel.sig) → Buf (Elt F) ℓ)
    (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)
        ∧ r.2.mem ((c.tc : Thread Cert.Kernel.nD Cert.Kernel.τ).loc Cert.Kernel.main_arg1)
          = m ((c.tc : Thread Cert.Kernel.nD Cert.Kernel.τ).loc Cert.Kernel.main_arg1))
        ∧ r.2.sem = fun _ => 0) := by
  rw [defs_same]
  exact frame_ideal (F := F) m ρ

end Cert.Net

end
-- ==== Proof.Position.lean ====
/- The network's positions in a row: where each lies on the sublanes and lanes, and what one stage of
   a bitonic network asks of a block. -/
module

public import proofs.«01_k».proof.Proof.Stages
public import Idealize.ShloMosaic.Lib.SortNet.Sorts
public import Idealize.ShloMosaic.Lib.ValueIdx
public import Idealize.ShloMosaic.Lib.ValueIdxCoords
public import Idealize.ShloMosaic.Lib.Pipeline.Value

@[expose] public section

noncomputable section

namespace Cert.Net

open Idealize.ShloMosaic Idealize.ShloMosaic.SortNet Idealize.ShloMosaic.ValueIdx Cert.KernelIdeal Cert.KernelIdeal.Gen

/-- The sublane of a position. -/
def sub (i : Fin (2 ^ 15)) : Fin 256 := ⟨8 * (i.val % 32) + i.val / 32 % 8, by omega⟩

/-- The lane of a position. -/
def lane (i : Fin (2 ^ 15)) : Fin 128 := ⟨i.val / 256, by have := i.isLt; omega⟩

/-- The position of a sublane and a lane. -/
def pos (r : Fin 256) (c : Fin 128) : Fin (2 ^ 15) :=
  ⟨r.val / 8 + 32 * (r.val % 8) + 256 * c.val, by have := r.isLt; have := c.isLt; omega⟩

/-- A position by its three digits: the group of eight sublanes, the sublane in it, the lane. -/
theorem digits (i : Fin (2 ^ 15)) : ∃ a b c : Nat, a < 32 ∧ b < 8 ∧ c < 128 ∧ i.val = a + 32 * b + 256 * c
    ∧ (sub i).val = 8 * a + b ∧ (lane i).val = c :=
  ⟨i.val % 32, i.val / 32 % 8, i.val / 256, by omega, by omega, by have := i.isLt; omega, by omega, rfl, rfl⟩

/-- The digits of a position determine it. -/
theorem digits_eq {a b c a' b' c' : Nat} (ha : a < 32) (hb : b < 8) (ha' : a' < 32) (hb' : b' < 8)
    (h : a' + 32 * b' + 256 * c' = a + 32 * b + 256 * c) : a' = a ∧ b' = b ∧ c' = c := by omega

/-- Positions and places in a row match one to one. -/
def posEquiv : Fin (2 ^ 15) ≃ Fin 256 × Fin 128 where
  toFun i := (sub i, lane i)
  invFun q := pos q.1 q.2
  left_inv i := by
    obtain ⟨a, b, c, ha, hb, hc, hi, h1, h2⟩ := digits i
    refine Fin.ext ?_
    simp only [pos, h1, h2]
    omega
  right_inv q := by
    rcases q with ⟨r, c⟩
    obtain ⟨a, b, c', ha, hb, hc, hi, h1, h2⟩ := digits (pos r c)
    have := r.isLt
    have hd := digits_eq (a := a) (b := b) (c := c') (a' := r.val / 8) (b' := r.val % 8) (c' := c.val) ha hb (by omega) (by omega) hi
    exact Prod.ext (Fin.ext (by simp only [h1]; omega)) (Fin.ext (by simp only [h2]; omega))

/-- Row `b` of a block, read in the order of the network's positions. -/
def seq {α : Type} (x : Shape.Idx S4x256x128 → α) (b : Fin 4) (i : Fin (2 ^ 15)) : α := x (ix3 b (sub i) (lane i))

/-- A number with a bit clear, below a higher power of two, stays below it with the bit set. -/
theorem set_lt {a s p : Nat} (hs : s < p) (hp : p ≤ 7) (ha : a < 2 ^ p) (h : a / 2 ^ s % 2 = 0) : a + 2 ^ s < 2 ^ p := by
  interval_cases p <;> interval_cases s <;> simp only [Nat.reducePow] at ha h ⊢ <;> omega

/-- A pair of a stage, by sublanes among groups of eight: the distances `8`, …, `128`. -/
theorem pair_group {s : Nat} (hs : s < 5) (i j : Fin (2 ^ 15)) (hi : i.val / 2 ^ s % 2 = 0) (hj : j.val = i.val + 2 ^ s) :
    (sub i).val / (8 * 2 ^ s) % 2 = 0 ∧ (sub j).val = (sub i).val + 8 * 2 ^ s ∧ lane j = lane i := by
  obtain ⟨a, b, c, ha, hb, hc, ei, h1, h2⟩ := digits i
  obtain ⟨a', b', c', ha', hb', hc', ej, h1', h2'⟩ := digits j
  have h0 : a / 2 ^ s % 2 = 0 := by
    rw [ei] at hi; clear hj ej ha' hb' hc' h1 h2 h1' h2'
    interval_cases s <;> simp only [Nat.reducePow] at hi ⊢ <;> omega
  have h3 := set_lt hs (by decide) ha h0
  obtain ⟨rfl, rfl, rfl⟩ := digits_eq (a := a + 2 ^ s) (b := b) (c := c) (a' := a') (b' := b') (c' := c') h3 hb ha' hb' (by omega)
  refine ⟨?_, by omega, Fin.ext (by omega)⟩
  rw [h1, ← Nat.div_div_eq_div_mul, show (8 * a + b') / 8 = a by omega, h0]

/-- A pair of a stage, by sublanes within a group of eight: the distances `1`, `2`, `4`. -/
theorem pair_sub {k : Nat} (hk : k < 3) (i j : Fin (2 ^ 15)) (hi : i.val / 2 ^ (k + 5) % 2 = 0) (hj : j.val = i.val + 2 ^ (k + 5)) :
    (sub i).val / 2 ^ k % 2 = 0 ∧ (sub j).val = (sub i).val + 2 ^ k ∧ lane j = lane i := by
  obtain ⟨a, b, c, ha, hb, hc, ei, h1, h2⟩ := digits i
  obtain ⟨a', b', c', ha', hb', hc', ej, h1', h2'⟩ := digits j
  have e5 : 2 ^ (k + 5) = 32 * 2 ^ k := by ring
  rw [e5] at hi hj
  have h0 : b / 2 ^ k % 2 = 0 := by
    rw [ei, ← Nat.div_div_eq_div_mul, show (a + 32 * b + 256 * c) / 32 = b + 8 * c by omega] at hi
    clear hj ej ha' hb' hc' h1 h2 h1' h2'
    interval_cases k <;> simp only [Nat.reducePow] at hi ⊢ <;> omega
  have h3 := set_lt hk (by decide) hb h0
  obtain ⟨rfl, rfl, rfl⟩ := digits_eq (a := a) (b := b + 2 ^ k) (c := c) (a' := a') (b' := b') (c' := c') ha h3 ha' hb' (by omega)
  refine ⟨?_, by omega, Fin.ext (by omega)⟩
  rw [h1]
  clear hi hj ej ei h1 h2 h1' h2'
  interval_cases k <;> simp only [Nat.reducePow] at h0 ⊢ <;> omega

/-- A pair of a stage, by lanes: the distances `1`, …, `64`. -/
theorem pair_lane {k : Nat} (hk : k < 7) (i j : Fin (2 ^ 15)) (hi : i.val / 2 ^ (k + 8) % 2 = 0) (hj : j.val = i.val + 2 ^ (k + 8)) :
    (lane i).val / 2 ^ k % 2 = 0 ∧ (lane j).val = (lane i).val + 2 ^ k ∧ sub j = sub i := by
  obtain ⟨a, b, c, ha, hb, hc, ei, h1, h2⟩ := digits i
  obtain ⟨a', b', c', ha', hb', hc', ej, h1', h2'⟩ := digits j
  have e8 : 2 ^ (k + 8) = 256 * 2 ^ k := by ring
  rw [e8] at hi hj
  have h0 : c / 2 ^ k % 2 = 0 := by
    rwa [ei, ← Nat.div_div_eq_div_mul, show (a + 32 * b + 256 * c) / 256 = c by omega] at hi
  obtain ⟨rfl, rfl, rfl⟩ := digits_eq (a := a) (b := b) (c := c + 2 ^ k) (a' := a') (b' := b') (c' := c') ha hb ha' hb' (by omega)
  exact ⟨by rw [h2, h0], by omega, Fin.ext (by omega)⟩

/-- The bit `s` of a number is clear, said by division. -/
theorem and_two_pow_eq_zero_iff (n s : Nat) : n &&& 2 ^ s = 0 ↔ n / 2 ^ s % 2 = 0 := by
  rw [and_two_pow_eq_zero_iff_testBit, Nat.testBit_eq_decide_div_mod_eq]
  simp

/-- A sequence that has, of every pair at distance `2 ^ s`, the minimum at the lower position and the
    maximum at the upper is the ascending stage's result. -/
theorem eq_stage {s : Nat} (hs : s < 15) (v w : Fin (2 ^ 15) → EReal)
    (h : ∀ i j : Fin (2 ^ 15), i.val / 2 ^ s % 2 = 0 → j.val = i.val + 2 ^ s →
      w i = min (v i) (v j) ∧ w j = max (v i) (v j)) :
    w = Network.apply (stage 15 s fun _ => false) v := by
  funext i
  by_cases hi : i.val &&& 2 ^ s = 0
  · rw [(apply_stage hs _ v i hi).1]
    exact (h i _ ((and_two_pow_eq_zero_iff _ _).1 hi) (partner_val_of_clear hs i hi)).1
  · have hp := partner_and_of_set hs i hi
    have e := (apply_stage hs (fun _ => false) v _ hp).2
    have q := (h _ _ ((and_two_pow_eq_zero_iff _ _).1 hp) (partner_val_of_clear hs _ hp)).2
    rw [partner_partner hs] at e q
    rw [e]; exact q

end Cert.Net
-- ==== Proof.Exchange.lean ====
/- Every exchange of the kernel is one stage of a bitonic network on a row's positions. -/
module

public import proofs.«01_k».proof.Proof.Position
public import Idealize.ShloMosaic.Lib.KernelVsHost

@[expose] public section

noncomputable section

namespace Cert.Net

open Idealize.ShloMosaic Idealize.ShloMosaic.SortNet Idealize.ShloMosaic.ValueIdx Cert.KernelIdeal Cert.KernelIdeal.Gen

section Groups
variable {g cj : Nat} (h1 : S4x256x128.ShapeCasts (S5 g cj)) (h2 : (S5 g cj).Slices ![0, 0, 0, 0, 0] (S51 g cj))
  (h3 : (S5 g cj).Slices ![0, 0, 1, 0, 0] (S51 g cj)) (h4 : (S51 g cj).ShapeCasts (S4 g cj))
  (h5 : (S4 g cj).ShapeCasts (S51 g cj)) (h6 : Shape.Concatenates [S51 g cj, S51 g cj] (S5 g cj) 2)
  (h7 : (S5 g cj).ShapeCasts S4x256x128)

/-- The row-major places of an element agree, in the block and in the block cut into pairs of groups. -/
theorem place_eq (hg : g * cj = 128) (b q p u c r : Nat) (hr : r = (q * 2 + p) * cj + u) :
    (((b * g + q) * 2 + p) * cj + u) * 128 + c = (b * 256 + r) * 128 + c := by
  have : ((b * g + q) * 2 + p) * cj + u = b * (2 * (g * cj)) + ((q * 2 + p) * cj + u) := by ring
  rw [this, hg, ← hr]

/-- A member of a pair, read through the slice that takes it out. -/
theorem member_apply (hg : g * cj = 128) (p : Fin 2) (hs : (S5 g cj).Slices ![0, 0, p.val, 0, 0] (S51 g cj)) (x : Blk Ideal)
    (b : Fin 4) (q : Fin g) (u : Fin cj) (c : Fin 128) (r : Fin 256) (hr : r.val = (q.val * 2 + p.val) * cj + u.val) :
    shapeCast (S4 g cj) (extractStridedSlice (S51 g cj) ![0, 0, p.val, 0, 0] (shapeCast (S5 g cj) x h1) hs) h4 (ix4 b q u c)
      = x (ix3 b r c) := by
  rw [shapeCast_apply _ h4 _ (ix5 b q u0 u c) (by
    rw [Shape.rowMajor_val_five, Shape.rowMajor_val_four]
    show (((b.val * g + q.val) * 1 + 0) * cj + u.val) * 128 + c.val = ((b.val * g + q.val) * cj + u.val) * 128 + c.val
    rw [Nat.mul_one, Nat.add_zero])]
  rw [extractStridedSlice_apply _ _ hs _ (ix5 b q p u c) (by
    intro a
    match a with
    | ⟨0, _⟩ => exact (Nat.zero_add _).symm
    | ⟨1, _⟩ => exact (Nat.zero_add _).symm
    | ⟨2, _⟩ => rfl
    | ⟨3, _⟩ => exact (Nat.zero_add _).symm
    | ⟨4, _⟩ => exact (Nat.zero_add _).symm)]
  exact shapeCast_apply _ h1 _ _ (by
    rw [Shape.rowMajor_val_five, Shape.rowMajor_val_three]
    exact (place_eq hg b.val q.val p.val u.val c.val r.val hr).symm)

/-- The exchange leaves the minimum of a pair at its first member and the maximum at its second. -/
theorem exch_apply (hg : g * cj = 128) (x : Blk Ideal) (b : Fin 4) (q : Fin g) (u : Fin cj) (c : Fin 128) (r r' : Fin 256)
    (hr : r.val = (q.val * 2 + 0) * cj + u.val) (hr' : r'.val = (q.val * 2 + 1) * cj + u.val) :
    exch g cj h1 h2 h3 h4 h5 h6 h7 x (ix3 b r c) = min (x (ix3 b r c)) (x (ix3 b r' c))
      ∧ exch g cj h1 h2 h3 h4 h5 h6 h7 x (ix3 b r' c) = max (x (ix3 b r c)) (x (ix3 b r' c)) := by
  have m0 := member_apply h1 h4 hg 0 h2 x b q u c r hr
  have m1 := member_apply h1 h4 hg 1 h3 x b q u c r' hr'
  have h51 : ((S4 g cj).rowMajor (ix4 b q u c)).val = ((S51 g cj).rowMajor (ix5 b q u0 u c)).val := by
    rw [Shape.rowMajor_val_five, Shape.rowMajor_val_four]
    show ((b.val * g + q.val) * cj + u.val) * 128 + c.val = (((b.val * g + q.val) * 1 + 0) * cj + u.val) * 128 + c.val
    rw [Nat.mul_one, Nat.add_zero]
  constructor
  · unfold exch
    rw [shapeCast_apply _ h7 _ (ix5 b q (0 : Fin 2) u c) (by
        rw [Shape.rowMajor_val_five, Shape.rowMajor_val_three]
        exact place_eq hg b.val q.val 0 u.val c.val r.val hr),
      concatenate_pair_apply_left _ _ _ h6 _ rfl (ix5 b q u0 u c) (by
        intro a
        match a with
        | ⟨0, _⟩ => rfl
        | ⟨1, _⟩ => rfl
        | ⟨2, _⟩ => rfl
        | ⟨3, _⟩ => rfl
        | ⟨4, _⟩ => rfl),
      shapeCast_apply _ h5 _ (ix4 b q u c) h51, minimumf_apply]
    exact congrArg₂ min m0 m1
  · unfold exch
    rw [shapeCast_apply _ h7 _ (ix5 b q (1 : Fin 2) u c) (by
        rw [Shape.rowMajor_val_five, Shape.rowMajor_val_three]
        exact place_eq hg b.val q.val 1 u.val c.val r'.val hr'),
      concatenate_pair_apply_right _ _ _ h6 _ rfl rfl (ix5 b q u0 u c) (by
        intro a ha
        match a with
        | ⟨0, _⟩ => rfl
        | ⟨1, _⟩ => rfl
        | ⟨2, _⟩ => exact absurd rfl ha
        | ⟨3, _⟩ => rfl
        | ⟨4, _⟩ => rfl) rfl,
      shapeCast_apply _ h5 _ (ix4 b q u c) h51, maximumf_apply]
    exact congrArg₂ max m0 m1

/-- The exchange of groups of `8 * 2 ^ s` sublanes is the network's stage at distance `2 ^ s`. -/
theorem seq_exch {s : Nat} (hs : s < 5) (ec : cj = 8 * 2 ^ s) (hg : g * cj = 128) (x : Blk Ideal) (b : Fin 4) :
    seq (exch g cj h1 h2 h3 h4 h5 h6 h7 x) b = Network.apply (stage 15 s fun _ => false) (seq x b) := by
  have hc : 0 < cj := by rw [ec]; positivity
  refine eq_stage (by omega) _ _ fun i j hi hj => ?_
  obtain ⟨k1, k2, k3⟩ := pair_group hs i j hi hj
  rw [← ec] at k1 k2
  have d1 := Nat.div_add_mod (sub i).val cj
  have d2 : (sub i).val / cj = (sub i).val / cj / 2 * 2 := by omega
  have hq : (sub i).val / cj / 2 < g := by
    have := (sub i).isLt
    rw [Nat.div_div_eq_div_mul, Nat.div_lt_iff_lt_mul (by omega)]
    have : g * (cj * 2) = 256 := by rw [← Nat.mul_assoc, hg]
    omega
  have e0 : (sub i).val = ((sub i).val / cj / 2 * 2 + 0) * cj + (sub i).val % cj := by
    rw [Nat.add_zero, ← d2, Nat.mul_comm]; exact d1.symm
  have e1 : (sub j).val = ((sub i).val / cj / 2 * 2 + 1) * cj + (sub i).val % cj := by
    rw [k2, Nat.add_mul, Nat.one_mul, Nat.add_right_comm]
    rw [Nat.add_zero] at e0
    exact congrArg (· + cj) e0
  have := exch_apply h1 h2 h3 h4 h5 h6 h7 hg x b ⟨_, hq⟩ ⟨_, Nat.mod_lt (sub i).val hc⟩ (lane i) (sub i) (sub j) e0 e1
  unfold seq
  rw [k3]
  exact this

end Groups

/-- Where a power of two's bit of a number is clear, as the kernel tests it. -/
theorem bit_test {k n : Nat} (hk : k < 32) (hn : n < 2 ^ 32) :
    IntOp.cmpi .eq (IntOp.andi (BitVec.ofNat 32 n) (BitVec.ofNat 32 (2 ^ k))) 0#32 = if n / 2 ^ k % 2 = 0 then 1#1 else 0#1 := by
  have h2 : 2 ^ k < 2 ^ 32 := Nat.pow_lt_pow_right (by decide) hk
  have e : (BitVec.ofNat 32 n &&& BitVec.ofNat 32 (2 ^ k) = 0#32) ↔ n / 2 ^ k % 2 = 0 := by
    rw [← and_two_pow_eq_zero_iff, ← BitVec.toNat_inj, BitVec.toNat_and, BitVec.toNat_ofNat, BitVec.toNat_ofNat,
      Nat.mod_eq_of_lt hn, Nat.mod_eq_of_lt h2]
    rfl
  unfold IntOp.cmpi IntOp.andi
  by_cases h : n / 2 ^ k % 2 = 0
  · rw [if_pos h]; simp [e.2 h]
  · rw [if_neg h]; simp only [beq_eq_false_iff_ne.2 fun h' => h (e.1 h')]; rfl

/-- The sublanes' mask at a place of a block. -/
theorem subMask_apply {k : Nat} (hk : k < 8) (b : Fin 4) (r : Fin 256) (c : Fin 128) :
    broadcastTo S4x256x128 (shapeCast S1x256x1 (subMask (BitVec.ofNat 32 (2 ^ k))) shapeCasts_S1x256x1_S1x256x1)
      broadcasts_S1x256x1_S4x256x128 (ix3 b r c) = if r.val / 2 ^ k % 2 = 0 then 1#1 else 0#1 := by
  rw [broadcastTo_apply _ _ _ (ix3 u0 r u0) (by
    intro a
    match a with
    | ⟨0, _⟩ => rfl
    | ⟨1, _⟩ => rfl
    | ⟨2, _⟩ => rfl), shapeCast_apply _ _ _ (ix3 u0 r u0) rfl]
  have := r.isLt
  rw [← bit_test (n := r.val) (k := k) (by omega) (by omega)]
  show IntOp.cmpi .eq (IntOp.andi (BitVec.ofNat 32 (0 * 256 + r.val)) _) 0#32 = _
  rw [Nat.zero_mul, Nat.zero_add]
  rfl

/-- The lanes' mask at a place of a block. -/
theorem laneMask_apply {k : Nat} (hk : k < 7) (b : Fin 4) (r : Fin 256) (c : Fin 128) :
    broadcastTo S4x256x128 (shapeCast S1x1x128 (laneMask (BitVec.ofNat 32 (2 ^ k))) shapeCasts_S1x1x128_S1x1x128)
      broadcasts_S1x1x128_S4x256x128 (ix3 b r c) = if c.val / 2 ^ k % 2 = 0 then 1#1 else 0#1 := by
  rw [broadcastTo_apply _ _ _ (ix3 u0 u0 c) (by
    intro a
    match a with
    | ⟨0, _⟩ => rfl
    | ⟨1, _⟩ => rfl
    | ⟨2, _⟩ => rfl), shapeCast_apply _ _ _ (ix3 u0 u0 c) rfl]
  have := c.isLt
  rw [← bit_test (n := c.val) (k := k) (by omega) (by omega)]
  show IntOp.cmpi .eq (IntOp.andi (BitVec.ofNat 32 (0 * 128 + c.val)) _) 0#32 = _
  rw [Nat.zero_mul, Nat.zero_add]
  rfl

/-- A block rotated along the sublanes, at a place. -/
theorem rotate_sub_apply (n : Nat) (hn : n < 256) (x : Blk Ideal) (b : Fin 4) (r r' : Fin 256) (c : Fin 128)
    (h : r'.val = (r.val + 256 - n) % 256) :
    dynamicRotate 1 (BitVec.ofNat 32 n) none x rotates_S4x256x128_d1 (ix3 b r c) = x (ix3 b r' c) := by
  refine dynamicRotate_apply _ _ _ _ _ _ fun a => ?_
  rw [BitVec.toNat_ofNat, Nat.mod_eq_of_lt (a := n) (by omega)]
  match a with
  | ⟨0, _⟩ => rfl
  | ⟨1, _⟩ =>
    show r'.val = (r.val + 256 - n % 256) % 256
    rw [Nat.mod_eq_of_lt hn, h]
  | ⟨2, _⟩ => rfl

/-- A block rotated along the lanes, at a place. -/
theorem rotate_lane_apply (n : Nat) (hn : n < 128) (x : Blk Ideal) (b : Fin 4) (r : Fin 256) (c c' : Fin 128)
    (h : c'.val = (c.val + 128 - n) % 128) :
    dynamicRotate 2 (BitVec.ofNat 32 n) none x rotates_S4x256x128_d2 (ix3 b r c) = x (ix3 b r c') := by
  refine dynamicRotate_apply _ _ _ _ _ _ fun a => ?_
  rw [BitVec.toNat_ofNat, Nat.mod_eq_of_lt (a := n) (by omega)]
  match a with
  | ⟨0, _⟩ => rfl
  | ⟨1, _⟩ => rfl
  | ⟨2, _⟩ =>
    show c'.val = (c.val + 128 - n % 128) % 128
    rw [Nat.mod_eq_of_lt hn, h]

/-- A bit that is clear is set by adding its power of two. -/
theorem bit_set {k n : Nat} (h : n / 2 ^ k % 2 = 0) : ¬(n + 2 ^ k) / 2 ^ k % 2 = 0 := by
  rw [Nat.add_div_right _ (Nat.two_pow_pos k)]; omega

/-- The exchange of sublanes by rotations is the network's stage at distance `2 ^ (k + 5)`. -/
theorem seq_rotSub {k : Nat} (hk : k < 3) (x : Blk Ideal) (b : Fin 4) :
    seq (rotSub (BitVec.ofNat 32 (256 - 2 ^ k)) (BitVec.ofNat 32 (2 ^ k)) x) b
      = Network.apply (stage 15 (k + 5) fun _ => false) (seq x b) := by
  refine eq_stage (by omega) _ _ fun i j hi hj => ?_
  obtain ⟨k1, k2, k3⟩ := pair_sub hk i j hi hj
  have hp : 0 < 2 ^ k := Nat.two_pow_pos k
  have hp' : 2 ^ k < 256 := Nat.pow_lt_pow_right (n := 8) (by decide) (by omega)
  have := (sub i).isLt; have := (sub j).isLt
  unfold seq rotSub
  rw [k3, select_apply, select_apply, subMask_apply (by omega), subMask_apply (by omega), if_pos k1,
    if_neg (k2 ▸ bit_set k1), select_one, select_zero, minimumf_apply, maximumf_apply,
    rotate_sub_apply _ (by omega) x b (sub i) (sub j) (lane i) (by omega),
    rotate_sub_apply _ hp' x b (sub j) (sub i) (lane i) (by omega)]
  exact ⟨rfl, max_comm _ _⟩

/-- The exchange of lanes by rotations is the network's stage at distance `2 ^ (k + 8)`. -/
theorem seq_rotLane {k : Nat} (hk : k < 7) (x : Blk Ideal) (b : Fin 4) :
    seq (rotLane (BitVec.ofNat 32 (128 - 2 ^ k)) (BitVec.ofNat 32 (2 ^ k)) x) b
      = Network.apply (stage 15 (k + 8) fun _ => false) (seq x b) := by
  refine eq_stage (by omega) _ _ fun i j hi hj => ?_
  obtain ⟨k1, k2, k3⟩ := pair_lane hk i j hi hj
  have hp : 0 < 2 ^ k := Nat.two_pow_pos k
  have hp' : 2 ^ k < 128 := Nat.pow_lt_pow_right (n := 7) (by decide) (by omega)
  have := (lane i).isLt; have := (lane j).isLt
  unfold seq rotLane
  rw [k3, select_apply, select_apply, laneMask_apply (by omega), laneMask_apply (by omega), if_pos k1,
    if_neg (k2 ▸ bit_set k1), select_one, select_zero, minimumf_apply, maximumf_apply,
    rotate_lane_apply _ (by omega) x b (sub i) (lane i) (lane j) (by omega),
    rotate_lane_apply _ hp' x b (sub i) (lane j) (lane i) (by omega)]
  exact ⟨rfl, max_comm _ _⟩

/-- The kernel's exchange at distance `2 ^ s` is the network's stage at that distance, the minimum to
    the lower position. -/
theorem seq_cmpx {s : Nat} (hs : s < 15) (x : Blk Ideal) (b : Fin 4) :
    seq (cmpx s x) b = Network.apply (stage 15 s fun _ => false) (seq x b) := by
  match s, hs with
  | 0, _ => exact seq_exch (s := 0) _ _ _ _ _ _ _ (by decide) rfl rfl x b
  | 1, _ => exact seq_exch (s := 1) _ _ _ _ _ _ _ (by decide) rfl rfl x b
  | 2, _ => exact seq_exch (s := 2) _ _ _ _ _ _ _ (by decide) rfl rfl x b
  | 3, _ => exact seq_exch (s := 3) _ _ _ _ _ _ _ (by decide) rfl rfl x b
  | 4, _ => exact seq_exch (s := 4) _ _ _ _ _ _ _ (by decide) rfl rfl x b
  | 5, _ => exact seq_rotSub (k := 0) (by decide) x b
  | 6, _ => exact seq_rotSub (k := 1) (by decide) x b
  | 7, _ => exact seq_rotSub (k := 2) (by decide) x b
  | 8, _ => exact seq_rotLane (k := 0) (by decide) x b
  | 9, _ => exact seq_rotLane (k := 1) (by decide) x b
  | 10, _ => exact seq_rotLane (k := 2) (by decide) x b
  | 11, _ => exact seq_rotLane (k := 3) (by decide) x b
  | 12, _ => exact seq_rotLane (k := 4) (by decide) x b
  | 13, _ => exact seq_rotLane (k := 5) (by decide) x b
  | 14, _ => exact seq_rotLane (k := 6) (by decide) x b

end Cert.Net
-- ==== Proof.Sorted.lean ====
/- The kernel's network sorts every row of a block: its levels are those of the bitonic sort, each with
   the signs of the descending parts changed. -/
module

public import proofs.«01_k».proof.Proof.Exchange

@[expose] public section

noncomputable section

namespace Cert.Net

open Idealize.ShloMosaic Idealize.ShloMosaic.SortNet Idealize.ShloMosaic.ValueIdx Cert.KernelIdeal Cert.KernelIdeal.Gen

/-- The part of a position the kernel computes from the sublane. -/
theorem idx_sub : ∀ r : Fin 256, IntOp.ori (IntOp.shrsi .vector (BitVec.ofNat 32 r.val) 3#32)
    (IntOp.shli .vector (IntOp.andi (BitVec.ofNat 32 r.val) 7#32) 5#32) = BitVec.ofNat 32 (r.val / 8 + 32 * (r.val % 8)) := by
  decide +kernel

/-- The part of a position the kernel computes from the lane. -/
theorem idx_lane : ∀ c : Fin 128, IntOp.shli .vector (BitVec.ofNat 32 c.val) 8#32 = BitVec.ofNat 32 (2 ^ 8 * c.val) := by
  decide +kernel

/-- The kernel's position word at a place is the place's position. -/
theorem idx_apply (r : Fin 256) (c : Fin 128) : idx (ix3 u0 r c) = BitVec.ofNat 32 (pos r c).val := by
  have e : idx (ix3 u0 r c) = IntOp.ori (IntOp.ori (IntOp.shrsi .vector (BitVec.ofNat 32 (0 * 256 + r.val)) 3#32)
      (IntOp.shli .vector (IntOp.andi (BitVec.ofNat 32 (0 * 256 + r.val)) 7#32) 5#32))
      (IntOp.shli .vector (BitVec.ofNat 32 (0 * 128 + c.val)) 8#32) := rfl
  have := r.isLt
  rw [e]
  simp only [Nat.zero_mul, Nat.zero_add]
  rw [idx_sub, idx_lane]
  unfold IntOp.ori
  rw [← BitVec.ofNat_or, Nat.or_comm, ← Nat.two_pow_add_eq_or_of_lt (i := 8) (b := r.val / 8 + 32 * (r.val % 8)) (by omega)]
  refine congrArg (BitVec.ofNat 32) ?_
  simp only [pos]
  omega

/-- The kernel's test of a bit of the position, at a place of a block. -/
theorem clear_apply {k : Nat} (hk : k < 32) (i : Fin (2 ^ 15)) :
    clear (BitVec.ofNat 32 (2 ^ k)) (ix3 u0 (sub i) (lane i)) = if i.val / 2 ^ k % 2 = 0 then 1#1 else 0#1 := by
  have := i.isLt
  rw [← bit_test hk (n := i.val) (by omega)]
  show IntOp.cmpi .eq (IntOp.andi (idx (ix3 u0 (sub i) (lane i))) _) 0#32 = _
  rw [idx_apply, show pos (sub i) (lane i) = i from posEquiv.left_inv i]
  rfl

/-- A mask over positions is the same for every row of a block. -/
theorem rows_apply (m : IVec S1x256x128 1) (b : Fin 4) (r : Fin 256) (c : Fin 128) : rows m (ix3 b r c) = m (ix3 u0 r c) := by
  unfold rows
  rw [broadcastTo_apply _ _ _ (ix3 u0 r c) (by
    intro a
    match a with
    | ⟨0, _⟩ => rfl
    | ⟨1, _⟩ => rfl
    | ⟨2, _⟩ => rfl), shapeCast_apply _ _ _ (ix3 u0 r c) rfl]

/-- Negation by subtracting from zero. -/
theorem negBlk_apply (x : Blk Ideal) (j : S4x256x128.Idx) : negBlk x j = -(x j) := by
  show Ideal.ofBits .f32 0x00000000#32 - x j = -(x j)
  rw [show Ideal.ofBits .f32 0x00000000#32 = 0 by simp, zero_sub]

/-- A sequence with the signs of level `n` changed: negative where bit `n + 1` of the position is set. -/
def signed (n : Nat) (v : Fin (2 ^ 15) → EReal) (i : Fin (2 ^ 15)) : EReal := if i.val / 2 ^ (n + 1) % 2 = 0 then v i else -(v i)

/-- The first change of sign. -/
theorem seq_flip0 (x : Blk Ideal) (b : Fin 4) : seq (flip0 x) b = signed 0 (seq x b) := by
  funext i
  unfold seq flip0 signed
  rw [select_apply, rows_apply, show (2#32 : BitVec 32) = BitVec.ofNat 32 (2 ^ 1) from rfl, clear_apply (by decide), negBlk_apply]
  by_cases h : i.val / 2 ^ 1 % 2 = 0
  · rw [if_pos h, if_pos h, select_one]
  · rw [if_neg h, if_neg h, select_zero]

/-- The change of sign between two levels takes the one level's signs to the next's. -/
theorem seq_flip {n : Nat} (hn : n < 14) (x : Blk Ideal) (b : Fin 4) (v : Fin (2 ^ 15) → EReal) (hx : seq x b = signed n v) :
    seq (flip (1#32 <<< (n + 1)) (1#32 <<< (n + 2)) x) b = signed (n + 1) v := by
  have e : ∀ k, 1#32 <<< k = BitVec.ofNat 32 (2 ^ k) := fun k => by
    rw [← BitVec.toNat_inj, BitVec.toNat_shiftLeft, BitVec.toNat_ofNat, BitVec.toNat_ofNat, Nat.shiftLeft_eq]
    simp
  funext i
  have hxi := congrFun hx i
  unfold seq at hxi
  unfold seq flip
  rw [select_apply, rows_apply, negBlk_apply, hxi]
  show Scalar.select (IntOp.xori (clear _ _) (clear _ _)) _ _ = _
  rw [e, e, clear_apply (by omega), clear_apply (by omega)]
  unfold signed
  by_cases h1 : i.val / 2 ^ (n + 1) % 2 = 0 <;> by_cases h2 : i.val / 2 ^ (n + 1 + 1) % 2 = 0
  · rw [if_pos h1, if_pos h1, if_pos h2, if_pos h2]; rfl
  · rw [if_pos h1, if_pos h1, if_neg h2, if_neg h2]; rfl
  · rw [if_neg h1, if_neg h1, if_pos h2, if_pos h2]; exact neg_neg _
  · rw [if_neg h1, if_neg h1, if_neg h2, if_neg h2]; rfl

/-- Two positions of a stage's pair have the same higher bits. -/
theorem high_bit {s k : Nat} (hs : s < k) (i j : Nat) (hi : i / 2 ^ s % 2 = 0) (hj : j = i + 2 ^ s) : j / 2 ^ k = i / 2 ^ k := by
  obtain ⟨d, rfl⟩ := Nat.exists_eq_add_of_lt hs
  have e : 2 ^ (s + d + 1) = 2 ^ s * 2 * 2 ^ d := by ring
  rw [e, ← Nat.div_div_eq_div_mul, ← Nat.div_div_eq_div_mul, ← Nat.div_div_eq_div_mul, ← Nat.div_div_eq_div_mul, hj,
    Nat.add_div_right _ (Nat.two_pow_pos s)]
  congr 1
  omega

/-- The directions of level `n` of the ascending sort. -/
abbrev dir (n : Nat) (i : Fin (2 ^ 15)) : Bool := decide (i.val &&& 2 ^ (n + 1) = 0) == false

/-- A stage of level `n` with every minimum to the lower position, on the signed sequence, is the sort's
    stage with its directions. -/
theorem stage_signed {s n : Nat} (hsn : s ≤ n) (hs : s < 15) (v : Fin (2 ^ 15) → EReal) :
    Network.apply (stage 15 s fun _ => false) (signed n v) = signed n (Network.apply (stage 15 s (dir n)) v) := by
  symm
  refine eq_stage hs _ _ fun i j hi hj => ?_
  have hi' := (and_two_pow_eq_zero_iff _ _).2 hi
  obtain ⟨e1, e2⟩ := apply_stage hs (dir n) v i hi'
  have hp : partner 15 s i = j := Fin.ext (by rw [partner_val_of_clear hs i hi', hj])
  rw [hp] at e1 e2
  have hb := high_bit (k := n + 1) (by omega) i.val j.val hi hj
  unfold signed
  rw [e1, e2, hb]
  by_cases h : i.val / 2 ^ (n + 1) % 2 = 0
  · have hd : dir n i = false := by simp [dir, (and_two_pow_eq_zero_iff _ _).2 h]
    simp only [if_pos h, hd]
    exact ⟨rfl, rfl⟩
  · have hd : dir n i = true := by simp [dir, mt (and_two_pow_eq_zero_iff _ _).1 h]
    simp only [if_neg h, hd, if_true]
    exact ⟨EReal.neg_strictAnti.antitone.map_max, EReal.neg_strictAnti.antitone.map_min⟩

/-- The same for any list of a level's distances. -/
theorem stages_signed {n : Nat} (hn : n < 15) (L : List Nat) (hL : ∀ s ∈ L, s ≤ n) (v : Fin (2 ^ 15) → EReal) :
    Network.apply (L.flatMap fun s => stage 15 s fun _ => false) (signed n v)
      = signed n (Network.apply (L.flatMap fun s => stage 15 s (dir n)) v) := by
  induction L generalizing v with
  | nil => rfl
  | cons s L ih =>
    have hs := hL s List.mem_cons_self
    rw [List.flatMap_cons, List.flatMap_cons, Network.apply_append, Network.apply_append, stage_signed hs (by omega),
      ih fun t ht => hL t (List.mem_cons_of_mem s ht)]

/-- The exchanges of one level, as a network's stages. -/
theorem seq_tail {n : Nat} (hn : n < 15) (x : Blk Ideal) (b : Fin 4) :
    seq (tail n x) b = Network.apply ((List.range (n + 1)).reverse.flatMap fun s => stage 15 s fun _ => false) (seq x b) := by
  induction n generalizing x with
  | zero =>
    unfold tail
    rw [seq_cmpx hn]
    simp
  | succ n ih =>
    unfold tail
    rw [ih (by omega), seq_cmpx hn, List.range_succ (n := n + 1), List.reverse_append, List.reverse_singleton,
      List.flatMap_append, Network.apply_append]
    simp

/-- After its level `n` the kernel holds the sort's sequence with that level's signs. -/
theorem seq_net {n : Nat} (hn : n < 15) (x : Blk Ideal) (b : Fin 4) :
    seq (net x n) b = signed n (Network.apply (levelsNet 15 false (n + 1)) (seq x b)) := by
  have hL : ∀ n : Nat, ∀ s ∈ (List.range (n + 1)).reverse, s ≤ n := fun n s hs => by
    have := List.mem_range.1 (List.mem_reverse.1 hs); omega
  induction n with
  | zero =>
    unfold net
    rw [seq_tail hn, seq_flip0, stages_signed hn _ (hL 0), levelsNet_succ, Network.apply_append]
    rfl
  | succ n ih =>
    unfold net
    rw [seq_tail hn, seq_flip (by omega) _ b _ (ih (by omega)), stages_signed hn _ (hL (n + 1)), levelsNet_succ (l := n + 1),
      Network.apply_append]
    rfl

/-- The kernel's whole network is the ascending sort. -/
theorem seq_sorted (x : Blk Ideal) (b : Fin 4) : seq (net x 14) b = Network.apply (sortNet 15 false) (seq x b) := by
  rw [seq_net (by decide), sortNet_eq_levelsNet]
  funext i
  have := i.isLt
  exact if_pos (by omega)

end Cert.Net
-- ==== Proof.RefSort.lean ====
/- The reference's sort of a row, and that the network's sort of the same numbers is the same row. -/
module

public import proofs.«01_k».proof.Proof.Gen.ReferenceIdeal
public import Idealize.ShloMosaic.Lib.SortFacts
public import Idealize.ShloMosaic.Lib.SortNet.Sorts
public import Idealize.ShloMosaic.Lib.IdealHost
public import Mathlib.Data.List.OfFn
public import Mathlib.Data.List.Sort

@[expose] public section

noncomputable section

namespace Cert.Net

open Idealize.ShloMosaic Idealize.ShloMosaic.SortNet Idealize.ShloMosaic.ValueIdx

/-- The reference's comparator is the order of the extended reals. -/
theorem comparator_eq (l r : EReal) :
    Cert.ReferenceIdeal.comparator_f32_d1 (F := Ideal) l r = BitVec.ofBool (decide (l < r)) := by
  have h : ∀ x : EReal, Scalar.select (FloatOps.cmpf (F := Ideal) (φ := .f32) .une x x) (FloatOps.ofBits .f32 0x7FC00000#32 : Ideal .f32)
      (Scalar.select (FloatOps.cmpf (F := Ideal) (φ := .f32) .oeq x (FloatOps.ofBits .f32 0x00000000#32)) (FloatOps.ofBits .f32 0x00000000#32) x) = x := by
    intro x
    have h1 : FloatOps.cmpf (F := Ideal) (φ := .f32) .une x x = 0#1 := by
      show BitVec.ofBool (decide (x ≠ x)) = 0#1
      simp
    rw [h1, select_zero]
    by_cases hx : x = (FloatOps.ofBits .f32 0x00000000#32 : Ideal .f32)
    · rw [← hx]; unfold Scalar.select; split <;> rfl
    · have h2 : FloatOps.cmpf (F := Ideal) (φ := .f32) .oeq x (FloatOps.ofBits .f32 0x00000000#32) = 0#1 := by
        show BitVec.ofBool (decide (x = (FloatOps.ofBits .f32 0x00000000#32 : Ideal .f32))) = 0#1
        simp only [decide_eq_false hx]; rfl
      rw [h2, select_zero]
  unfold Cert.ReferenceIdeal.comparator_f32_d1
  dsimp only
  rw [h l, h r]
  rfl

/-- A row sorted, as the reference's stable sort places it. -/
def srt {n : Nat} (v : Fin n → EReal) (k : Fin n) : EReal := v (sortedFrom (fun a b => decide (v a < v b)) k)

/-- The reference's sort of an array, at a place: its row sorted. -/
theorem sort_apply (A : FVec Ideal Cert.ReferenceIdeal.S1024x32768 .f32) (r : Fin 1024) (k : Fin 32768) :
    Host.sort Cert.ReferenceIdeal.S1024x32768 1 (Cert.ReferenceIdeal.comparator_f32_d1 (F := Ideal)) A (ix2 r k)
      = srt (fun k => A (ix2 r k)) k := by
  have e : ∀ q : Fin 32768,
      Function.update (β := fun a => Fin (Cert.ReferenceIdeal.S1024x32768.size a)) (ix2 r k) (1 : Fin 2) q = ix2 r q := by
    intro q
    funext a
    match a with
    | ⟨0, _⟩ => rfl
    | ⟨1, _⟩ => rfl
  have hb : ∀ a b : Fin 32768, (Cert.ReferenceIdeal.comparator_f32_d1 (F := Ideal) (A (ix2 r a)) (A (ix2 r b)) == 1#1)
      = decide (A (ix2 r a) < A (ix2 r b)) := fun a b => by
    rw [comparator_eq]
    exact (by decide : ∀ b : Bool, (BitVec.ofBool b == 1#1) = b) _
  show A (Function.update _ (1 : Fin 2) (sortedFrom (n := 32768) (fun a b => Cert.ReferenceIdeal.comparator_f32_d1 (F := Ideal)
    (A (Function.update _ (1 : Fin 2) a)) (A (Function.update _ (1 : Fin 2) b)) == 1#1) k)) = _
  simp only [e, hb]
  rfl

/-- The sorted row ascends. -/
theorem srt_monotone {n : Nat} (v : Fin n → EReal) : Monotone (srt v) := by
  intro i j hij
  rcases eq_or_lt_of_le hij with rfl | hij
  · exact le_rfl
  · have := sortedFrom_noInversion (fun a b => decide (v a < v b)) (fun a b => decide (v a < v b))
      (fun a b h => by simp only [decide_eq_true_eq, decide_eq_false_iff_not, not_lt] at h ⊢; exact h.le) (fun _ _ h => h)
      (fun a b c h h' => by simp only [decide_eq_false_iff_not, not_lt] at h h' ⊢; exact h'.trans h) i j hij
    simpa [srt] using this

/-- The sorted row is the row rearranged. -/
theorem srt_perm {n : Nat} (v : Fin n → EReal) : ∃ σ : Equiv.Perm (Fin n), srt v = v ∘ σ :=
  ⟨Equiv.ofBijective _ ⟨sortedFrom_injective _, sortedFrom_surjective _⟩, rfl⟩

/-- Two ascending rearrangements of the same numbers are equal. -/
theorem ascending_unique {n : Nat} (v : Fin n → EReal) (σ τ : Equiv.Perm (Fin n)) (hσ : Monotone (v ∘ σ)) (hτ : Monotone (v ∘ τ)) :
    v ∘ σ = v ∘ τ := by
  have hp : ∀ f : Fin n → EReal, Monotone f → (List.ofFn f).Pairwise (· ≤ ·) := fun f hf => by
    rw [List.pairwise_ofFn]
    exact fun i j hij => hf hij.le
  exact List.ofFn_injective (List.Perm.eq_of_pairwise (le := (· ≤ ·)) (fun a b _ _ h h' => le_antisymm h h') (hp _ hσ) (hp _ hτ)
    ((Equiv.Perm.ofFn_comp_perm σ v).trans (Equiv.Perm.ofFn_comp_perm τ v).symm))

/-- The network sorts a row, read in any order, to the row the reference's sort gives. -/
theorem sortNet_eq_srt {p n : Nat} (hn : 2 ^ p = n) (v : Fin n → EReal) (e : Fin (2 ^ p) ≃ Fin n) (i : Fin (2 ^ p)) :
    Network.apply (sortNet p false) (fun i => v (e i)) i = srt v (Fin.cast hn i) := by
  subst hn
  obtain ⟨σ, hσ⟩ := Network.exists_perm (sortNet p false) (fun i => v (e i))
  obtain ⟨τ, hτ⟩ := srt_perm v
  have h1 : Monotone (v ∘ (σ.trans e : Equiv.Perm (Fin (2 ^ p)))) := by
    have := sortNet_apply_monotone p (fun i => v (e i))
    rw [hσ] at this
    exact this
  have h2 : Monotone (v ∘ τ) := hτ ▸ srt_monotone v
  have := congrFun (ascending_unique v _ _ h1 h2) i
  rw [hσ, hτ]
  exact this

end Cert.Net
-- ==== Proof.BlockLoss.lean ====
/- What one block adds to the loss: over its rows, the squares of the differences of the rows and of
   the sorted rows. -/
module

public import proofs.«01_k».proof.Proof.Sorted
public import proofs.«01_k».proof.Proof.RefSort
public import Idealize.ShloMosaic.Lib.Pointwise.Index

@[expose] public section

noncomputable section

namespace Cert.Net

open Idealize.ShloMosaic hiding ix3
open Idealize.ShloMosaic.SortNet Idealize.ShloMosaic.ValueIdx Cert.KernelIdeal Cert.KernelIdeal.Gen
open scoped BigOperators

/-- The sum of the squares of the differences of two sequences. -/
def gap {n : Nat} (v w : Fin n → EReal) : EReal := ∑ i, (v i - w i) * (v i - w i)

/-- The place in a row of 32768 of each of the network's positions. -/
def spot : Fin (2 ^ 15) ≃ Fin 32768 := posEquiv.trans finProdFinEquiv

/-- That place is row-major in the sublane and the lane. -/
theorem spot_val (i : Fin (2 ^ 15)) : (spot i).val = (lane i).val + 128 * (sub i).val := rfl

/-- A block's sum of squares, row by row. -/
theorem sqSum_eq (x y : Blk Ideal) : sqSum x y = ∑ b : Fin 4, gap (seq x b) (seq y b) := by
  let f : S4x256x128.Idx → EReal := fun j => (x j - y j) * (x j - y j)
  have h1 : sqSum x y = ∑ j : S1x4x256x128.Idx, f (Shape.reshapeEquiv shapeCasts_S4x256x128_S1x4x256x128 j) :=
    Ideal.multiReduction_add_total (φ := .f32) _ 0x00000000#32 reduces_S1x4x256x128_S1 (by decide) (.inl rfl) rfl _
  rw [h1, Equiv.sum_comp (Shape.reshapeEquiv shapeCasts_S4x256x128_S1x4x256x128) f]
  refine (sum_idx3 f).trans (Finset.sum_congr rfl fun b _ => ?_)
  refine (Fintype.sum_prod_type' (fun (r : Fin 256) (c : Fin 128) => f (ix3 b r c))).symm.trans ?_
  exact (Equiv.sum_comp posEquiv fun q : Fin 256 × Fin 128 => f (ix3 b q.1 q.2)).symm

/-- A block's part of the loss, from the rows it holds. -/
theorem blkLoss_rows (x y : Vec Ideal S4x256x128 .f32) (v w : Fin 4 → Fin 32768 → EReal)
    (hx : ∀ b i, x (ix3 b (sub i) (lane i)) = v b (spot i)) (hy : ∀ b i, y (ix3 b (sub i) (lane i)) = w b (spot i)) :
    blkLoss x y = (∑ b : Fin 4, gap (v b) (w b)) + ∑ b : Fin 4, gap (srt (v b)) (srt (w b)) := by
  have ex : shapeCast S4x256x128 x shapeCasts_S4x256x128_S4x256x128 = x := funext fun j => shapeCast_apply _ _ _ _ rfl
  have ey : shapeCast S4x256x128 y shapeCasts_S4x256x128_S4x256x128 = y := funext fun j => shapeCast_apply _ _ _ _ rfl
  have sx : ∀ b, seq (x : Blk Ideal) b = fun i => v b (spot i) := fun b => funext fun i => hx b i
  have sy : ∀ b, seq (y : Blk Ideal) b = fun i => w b (spot i) := fun b => funext fun i => hy b i
  unfold blkLoss
  dsimp only
  rw [ex, ey]
  show sqSum (F := Ideal) x y + sqSum (F := Ideal) (net (F := Ideal) x 14) (net (F := Ideal) y 14) = _
  rw [sqSum_eq, sqSum_eq]
  refine congrArg₂ (· + ·) (Finset.sum_congr rfl fun b _ => ?_) (Finset.sum_congr rfl fun b _ => ?_)
  · rw [sx, sy]
    exact Equiv.sum_comp spot fun k => (v b k - w b k) * (v b k - w b k)
  · rw [seq_sorted, seq_sorted, sx, sy]
    unfold gap
    simp only [sortNet_eq_srt (p := 15) (n := 32768) rfl]
    exact Equiv.sum_comp (finCongr (rfl : 2 ^ 15 = 32768)) fun k => (srt (v b) k - srt (w b) k) * (srt (v b) k - srt (w b) k)

end Cert.Net
-- ==== Proof.Loss.lean ====
/- The two losses of whole arrays, the number that both programs divide by, and that the two orders of summing and
   dividing return the same number. -/
module

public import proofs.«01_k».proof.Proof.BlockLoss

@[expose] public section

noncomputable section

namespace Cert.Net

open Idealize.ShloMosaic hiding ix3 ix2
open Idealize.ShloMosaic.ValueIdx Cert.KernelIdeal Cert.KernelIdeal.Gen
open scoped BigOperators

/-- Row `r` of a flat array. -/
def row (x : FVec Ideal S1024x32768 .f32) (r : Fin 1024) (k : Fin 32768) : EReal := x (ix2 r k)

/-- The sum over the rows of the squared gap of two flat arrays. -/
def plain (x y : FVec Ideal S1024x32768 .f32) : EReal := ∑ r, gap (row x r) (row y r)

/-- The sum over the rows of the squared gap of two flat arrays, both rows sorted. -/
def sorted (x y : FVec Ideal S1024x32768 .f32) : EReal := ∑ r, gap (srt (row x r)) (srt (row y r))

/-- The constant that both programs divide by, the number of elements. -/
def count : EReal := Ideal.ofBits .f32 0x4C000000#32

/-- A square is not negative. -/
theorem square_nonneg (d : EReal) : 0 ≤ d * d := by
  rcases le_total 0 d with h | h
  · exact mul_nonneg h h
  · rw [← neg_mul_neg]
    exact mul_nonneg (EReal.neg_nonneg.2 h) (EReal.neg_nonneg.2 h)

/-- The square of a magnitude is the square. -/
theorem abs_square (d : EReal) : max d (-d) * max d (-d) = d * d := by
  rcases le_total (-d) d with h | h
  · rw [max_eq_left h]
  · rw [max_eq_right h, neg_mul_neg]

/-- A gap is not negative. -/
theorem gap_nonneg {n : Nat} (v w : Fin n → EReal) : 0 ≤ gap v w :=
  Finset.sum_nonneg fun _ _ => square_nonneg _

/-- The plain loss is not negative. -/
theorem plain_nonneg (x y : FVec Ideal S1024x32768 .f32) : 0 ≤ plain x y :=
  Finset.sum_nonneg fun _ _ => gap_nonneg _ _

/-- The sorted loss is not negative. -/
theorem sorted_nonneg (x y : FVec Ideal S1024x32768 .f32) : 0 ≤ sorted x y :=
  Finset.sum_nonneg fun _ _ => gap_nonneg _ _

/-- The number of elements is 2 to the 25. -/
theorem count_eq : count = ((33554432 : ℝ) : EReal) := by
  unfold count
  simp [Ideal.ofBits, Ideal.ieee, -EReal.coe_mul]
  norm_num

/-- The kernel divides the sum of the two losses once; the reference divides each loss, adds, and divides by one. -/
theorem divide_once (A B : EReal) (hA : 0 ≤ A) (hB : 0 ≤ B) :
    Ideal.div (0 + (A + B)) count = Ideal.div (0 + (Ideal.div (0 + B) count + Ideal.div (0 + A) count)) 1 := by
  have hc : count ≠ 0 := by rw [count_eq]; exact_mod_cast (by norm_num : (33554432 : ℝ) ≠ 0)
  unfold Ideal.div
  rw [if_neg hc, if_neg hc, if_neg hc, if_neg one_ne_zero]
  simp only [zero_add, inv_one, mul_one]
  rw [EReal.right_distrib_of_nonneg hA hB, add_comm]

end Cert.Net

end
-- ==== Proof.KernelValue.lean ====
/- What the kernel's program returns: the launch's blocks, the array it writes, and the host's operations after it. -/
module

public import proofs.«01_k».proof.Proof.Run
public import proofs.«01_k».proof.Proof.Loss
public import Idealize.ShloMosaic.Lib.Pipeline.ValueKit

@[expose] public section

noncomputable section

namespace Cert.Net

open Idealize.ShloMosaic hiding ix3 ix2
open Idealize.ShloMosaic.TcCoe Idealize.SL.Sem Idealize.ShloMosaic.ValueIdx Cert.KernelIdeal Cert.KernelIdeal.Gen

variable (m : (ℓ : Loc nD τ sig) → Buf (Elt Ideal) ℓ) (ρ : Dev nD → PrngReg)

/-- The predictions: the program's first argument. -/
abbrev preds (c : Dev nD) : Vec Ideal S1024x32768 .f32 := m ((c.tc : Thread nD τ).loc main_arg0)

/-- The targets: the program's second argument. -/
abbrev targets (c : Dev nD) : Vec Ideal S1024x32768 .f32 := m ((c.tc : Thread nD τ).loc main_arg1)

/-- The first window's array is the targets, every row folded into 256 sublanes of 128 lanes. -/
theorem entry_targets (c : Dev nD) :
    V m c main_call0_v0 = shapeCast S1024x256x128 (targets m c) shapeCasts_S1024x32768_S1024x256x128 := by
  entry_read
  rfl

/-- The second window's array is the predictions, folded the same way. -/
theorem entry_preds (c : Dev nD) :
    V m c main_call0_v1 = shapeCast S1024x256x128 (preds m c) shapeCasts_S1024x32768_S1024x256x128 := by
  entry_read
  rfl

/-- Block `t` of the first window starts at row `4 t`. -/
theorem index0 (t : Fin cfg0.N) : win0_0.index t = ![t.val, 0, 0] := by
  revert t; decide +kernel

/-- Block `t` of the second window starts at row `4 t`. -/
theorem index1 (t : Fin cfg0.N) : win0_1.index t = ![t.val, 0, 0] := by
  revert t; decide +kernel

/-- Block `t` of the output is its element `t`. -/
theorem index2 (t : Fin cfg0.N) : win0_2.index t = ![t.val, 0, 0] := by
  revert t; decide +kernel

/-- The row of the whole array that is row `b` of block `t`. -/
def rowOf (t : Fin 256) (b : Fin 4) : Fin 1024 := finProdFinEquiv (m := 256) (n := 4) (t, b)

theorem rowOf_val (t : Fin 256) (b : Fin 4) : (rowOf t b).val = b.val + 4 * t.val := rfl

/-- A folded array read at sublane and lane of position `i`, in row `b` of block `t`, is the flat array at that row
and at the spot of `i`. -/
theorem fold_apply (x : Vec Ideal S1024x32768 .f32) (t : Fin 256) (b : Fin 4) (i : Fin (2 ^ 15))
    (e : S1024x256x128.Idx) (h₀ : (e 0).val = t.val * 4 + b.val) (h₁ : (e 1).val = (sub i).val)
    (h₂ : (e 2).val = (lane i).val) :
    shapeCast S1024x256x128 x shapeCasts_S1024x32768_S1024x256x128 e = x (ix2 (rowOf t b) (spot i)) := by
  refine shapeCast_apply _ _ _ _ ?_
  rw [Shape.rowMajor_val_two, Shape.rowMajor_val_three, h₀, h₁, h₂]
  show (rowOf t b).val * 32768 + (spot i).val = ((t.val * 4 + b.val) * 256 + (sub i).val) * 128 + (lane i).val
  rw [rowOf_val, spot_val]
  omega

/-- Block `t` of the first window, read at position `i` of its row `b`. -/
theorem iblk0_apply (c : Dev nD) (t : Fin cfg0.N) (b : Fin 4) (i : Fin (2 ^ 15)) :
    iblk m c 0 t (ix3 b (sub i) (lane i)) = targets m c (ix2 (rowOf t b) (spot i)) := by
  unfold iblk
  blk_simp
  rw [entry_targets]
  refine fold_apply _ t b i _ ?_ ?_ ?_ <;> (blk_simp; rw [index0])
  · rfl
  · exact (congrArg (· + (sub i).val) (Nat.zero_mul 256)).trans (Nat.zero_add _)
  · exact (congrArg (· + (lane i).val) (Nat.zero_mul 128)).trans (Nat.zero_add _)

/-- Block `t` of the second window, read the same way. -/
theorem iblk1_apply (c : Dev nD) (t : Fin cfg0.N) (b : Fin 4) (i : Fin (2 ^ 15)) :
    iblk m c 1 t (ix3 b (sub i) (lane i)) = preds m c (ix2 (rowOf t b) (spot i)) := by
  unfold iblk
  blk_simp
  rw [entry_preds]
  refine fold_apply _ t b i _ ?_ ?_ ?_ <;> (blk_simp; rw [index1])
  · rfl
  · exact (congrArg (· + (sub i).val) (Nat.zero_mul 256)).trans (Nat.zero_add _)
  · exact (congrArg (· + (lane i).val) (Nat.zero_mul 128)).trans (Nat.zero_add _)

/-- The squared gaps of the four rows of block `t`, as they stand and sorted. -/
def four (x y : Vec Ideal S1024x32768 .f32) (t : Fin 256) : EReal :=
  (∑ b : Fin 4, gap (row x (rowOf t b)) (row y (rowOf t b))) +
    ∑ b : Fin 4, gap (srt (row x (rowOf t b))) (srt (row y (rowOf t b)))

/-- The loss of one block is that of its four rows. -/
theorem blk_value (c : Dev nD) (t : Fin cfg0.N) :
    blkLoss (F := Ideal) (iblk m c 0 t) (iblk m c 1 t) = four (targets m c) (preds m c) t :=
  blkLoss_rows _ _ _ _ (iblk0_apply m c t) (iblk1_apply m c t)

/-- A sum over the blocks and the rows of each block is a sum over the rows. -/
theorem sum_rows (g : Fin 1024 → EReal) : ∑ t : Fin 256, ∑ b : Fin 4, g (rowOf t b) = ∑ r, g r := by
  rw [← Fintype.sum_prod_type' fun t b => g (rowOf t b)]
  exact (finProdFinEquiv (m := 256) (n := 4)).sum_comp g

/-- The array that the launch writes: element `t` is the loss of block `t`. -/
theorem arr_eq (c : Dev nD) : (dats m 0 c).arrAt 2 cfg0.N =
    (fun j : S256x1x1.Idx => four (targets m c) (preds m c) (j 0)) := by
  refine (dats m 0 c).arrAt_eq_of_covers 2 _ (by decide +kernel) fun t hf y => ?_
  blk_simp
  rw [after0_2]
  have h : ((win0_2.blk t).view.emb y) 0 = t := by
    apply Fin.ext
    blk_simp [index2]
  simp only [outBlk]
  rw [h, blk_value]

/-- The two host operations after the launch: the sum of the written array over the constant. -/
def mean (A : FVec Ideal S256x1x1 .f32) : FVec Ideal S_ .f32 :=
  Host.divf (Host.reduceAdd A (constant S_ .f32 0x00000000#32) reducesTo_S256x1x1_S_d0_1_2 h_S_)
    (constant S_ .f32 0x4C000000#32)

/-- What the host operations after the launch leave, from whatever array the launch has written. -/
theorem tail_value (W : Valuation τ sig (Elt Ideal)) (A : FVec Ideal S256x1x1 .f32)
    (hA : W (Proc.devRef .tc main_call0_v2) = A) :
    StableHlo.after [hostOps1].flatten W (Proc.devRef .tc main_v0) = mean A := by
  subst hA
  rfl

/-- The mean of an array of 256 losses is their sum, over the constant. -/
theorem mean_eq (f : Fin 256 → EReal) :
    mean (fun j => f (j 0)) = fun _ => Ideal.div (0 + ∑ t, f t) (Ideal.ofBits .f32 0x4C000000#32) := by
  funext k
  unfold mean
  rw [hostDivf_apply, hostReduceAdd_apply, Ideal.hostReduceAdd_total _ (by decide)]
  have h : ∑ j : S256x1x1.Idx, f (j 0) = ∑ t, f t := by
    rw [sum_idx3]
    simp
  rw [h]
  show Ideal.div (Ideal.ofBits .f32 0x00000000#32 + _) _ = _
  rw [Ideal.ofBits_zero_f32]
  rfl

/-- The kernel's program returns the sum of the plain and the sorted losses over the number of elements, and leaves its
arguments as they were. -/
theorem run_value : θ_run defs (onTc (τ := τ) (main (F := Ideal))) ⟨m, fun _ => 0, ρ⟩ (fun r => ∀ c : Dev nD,
      r.2.mem ((c.tc : Thread nD τ).loc main_v0) = (fun _ => Ideal.div
        (0 + (plain (targets m c) (preds m c) + sorted (targets m c) (preds m c))) count : FVec Ideal S_ .f32) ∧
      r.2.mem ((c.tc : Thread nD τ).loc main_arg0) = m ((c.tc : Thread nD τ).loc main_arg0) ∧
      r.2.mem ((c.tc : Thread nD τ).loc main_arg1) = m ((c.tc : Thread nD τ).loc main_arg1)) := by
  run_from run_main m ρ
  · unfold Pipeline.afterTail₀
    rw [tail_value _ _ ((Pipeline.withArrays_arr (cfgs 0).spec (by decide) c (V0 m c) _ 2).trans (arr_eq m c)),
      mean_eq]
    simp only [four, Finset.sum_add_distrib]
    unfold plain sorted count
    rw [sum_rows fun r => gap (row (targets m c) r) (row (preds m c) r),
      sum_rows fun r => gap (srt (row (targets m c) r)) (srt (row (preds m c) r))]
  · exact Pipeline.withArrays_of_ne (cfgs 0).spec c (V0 m c) (fun w => (dats m 0 c).arrAt w (cfgs 0).N) main_arg0
      (by decide)
  · exact Pipeline.withArrays_of_ne (cfgs 0).spec c (V0 m c) (fun w => (dats m 0 c).arrAt w (cfgs 0).N) main_arg1
      (by decide)

end Cert.Net
-- ==== Proof.RefValue.lean ====
/- What the reference returns, as a number of the two losses of its arguments. -/
module

public import proofs.«01_k».proof.Proof.Loss
public import proofs.«01_k».proof.Proof.Gen.ReferenceIdeal.Run

@[expose] public section

noncomputable section

namespace Cert.Net

open Idealize.ShloMosaic hiding ix3 ix2
open Idealize.ShloMosaic.TcCoe Idealize.SL.Sem Idealize.ShloMosaic.ValueIdx Cert.ReferenceIdeal Cert.ReferenceIdeal.Gen
open scoped BigOperators

/-- The host's total of the squared magnitudes of a difference is the sum of the rows' gaps. -/
theorem total_square (x y : FVec Ideal S1024x32768 .f32) (k : S_.Idx) :
    Host.reduceAdd (mulf (Host.absf (subf x y)) (Host.absf (subf x y))) (constant S_ .f32 0x00000000#32)
      reducesTo_S1024x32768_S_d0_1 h_S_ k = 0 + plain x y := by
  rw [hostReduceAdd_apply, Ideal.hostReduceAdd_total _ (by decide), ValueIdx.sum_idx2]
  show Ideal.ofBits .f32 0x00000000#32 + _ = _
  rw [Ideal.ofBits_zero_f32]
  refine congrArg (0 + ·) (Finset.sum_congr rfl fun r _ => Finset.sum_congr rfl fun q _ => ?_)
  exact abs_square _

/-- The plain loss of the arrays that the reference has sorted is the sorted loss. -/
theorem plain_sort (x y : FVec Ideal S1024x32768 .f32) :
    plain (Host.sort S1024x32768 1 comparator_f32_d1 x) (Host.sort S1024x32768 1 comparator_f32_d1 y) = sorted x y := by
  have h (z : FVec Ideal S1024x32768 .f32) (r : Fin 1024) :
      row (Host.sort S1024x32768 1 comparator_f32_d1 z) r = srt (row z r) := funext fun k => sort_apply z r k
  unfold plain sorted
  simp only [h]

/-- A total over no axis is the number itself, from zero. -/
theorem total_point (x : FVec Ideal S_ .f32) (k : S_.Idx) :
    Host.reduceAdd x (constant S_ .f32 0x00000000#32) reducesTo_S_S_d h_S_ k = 0 + x k := by
  rw [hostReduceAdd_apply, Ideal.hostReduceAdd_total _ (by decide)]
  show Ideal.ofBits .f32 0x00000000#32 + _ = _
  rw [Ideal.ofBits_zero_f32, Fintype.sum_eq_single k fun j hj => absurd (Subsingleton.elim j k) hj]

/-- The reference returns, of any two arrays, what the kernel's program returns of them. -/
theorem ref_value (x y : FVec Ideal S1024x32768 .f32) :
    Host.divf (Host.reduceAdd (addf
      (Host.divf (Host.reduceAdd (mulf
          (Host.absf (subf (Host.sort S1024x32768 1 comparator_f32_d1 x) (Host.sort S1024x32768 1 comparator_f32_d1 y)))
          (Host.absf (subf (Host.sort S1024x32768 1 comparator_f32_d1 x) (Host.sort S1024x32768 1 comparator_f32_d1 y))))
        (constant S_ .f32 0x00000000#32) reducesTo_S1024x32768_S_d0_1 h_S_) (constant S_ .f32 0x4C000000#32))
      (Host.divf (Host.reduceAdd (mulf (Host.absf (subf x y)) (Host.absf (subf x y)))
        (constant S_ .f32 0x00000000#32) reducesTo_S1024x32768_S_d0_1 h_S_) (constant S_ .f32 0x4C000000#32)))
      (constant S_ .f32 0x00000000#32) reducesTo_S_S_d h_S_) (constant S_ .f32 0x3F800000#32)
      = (fun _ => Ideal.div (0 + (plain x y + sorted x y)) count : FVec Ideal S_ .f32) := by
  funext k
  rw [hostDivf_apply, total_point, divide_once _ _ (plain_nonneg x y) (sorted_nonneg x y), ← Ideal.ofBits_one_f32,
    ← plain_sort, ← total_square _ _ k, ← total_square _ _ k]
  rfl

end Cert.Net

end
-- ==== Proof.lean ====
/- The claims about the kernel's program, its reading over the extended reals, and the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Printed
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference ends with its arguments unchanged and every counter at zero. -/
theorem reference_frame : @Cert.quiescent_ReferenceIdeal Cert.ReferenceIdeal.Gen.facts := by
  intro m ρ _
  exact (θ_run _ _ _).mono (fun r h => ⟨fun c => (h c).2, sem_eq_zero_of_no_sems (by decide) r.2⟩)
    (Cert.ReferenceIdeal.Value.run m ρ)

/-- From equal arguments the kernel's program and the reference return the same number over the extended reals. -/
theorem equal_results :
    @Cert.algebraic_KernelIdeal_ReferenceIdeal Cert.KernelIdeal.Gen.facts Cert.ReferenceIdeal.Gen.facts := by
  pair_intro
  · run_from Cert.Net.run_value m g
  · run_from Cert.ReferenceIdeal.Value.run m' g'
    exact Cert.Net.ref_value _ _

/-- Every claim. -/
theorem claim : Cert.Claim := ⟨Cert.Kernel.Gen.facts, Cert.KernelIdeal.Gen.facts, Cert.ReferenceIdeal.Gen.facts,
  fun m ρ _ => Cert.Net.frame_printed m ρ, fun m ρ _ => Cert.Net.frame_ideal m ρ, reference_frame, trivial, equal_results⟩

end Cert.Proof

end
